-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x5120 : Shape := ⟨3, ![8, 4096, 5120]⟩
abbrev S8x4096 : Shape := ⟨2, ![8, 4096]⟩
abbrev S5120x320 : Shape := ⟨2, ![5120, 320]⟩
abbrev S40x640 : Shape := ⟨2, ![40, 640]⟩
abbrev S640 : Shape := ⟨1, ![640]⟩
abbrev S32768x5120 : Shape := ⟨2, ![32768, 5120]⟩
abbrev S1x640 : Shape := ⟨2, ![1, 640]⟩
abbrev S32768x640 : Shape := ⟨2, ![32768, 640]⟩
abbrev S512x5120 : Shape := ⟨2, ![512, 5120]⟩
abbrev S512x640 : Shape := ⟨2, ![512, 640]⟩
abbrev S640x5120 : Shape := ⟨2, ![640, 5120]⟩
abbrev S640x128 : Shape := ⟨2, ![640, 128]⟩
abbrev S128x320 : Shape := ⟨2, ![128, 320]⟩
abbrev S32x320 : Shape := ⟨2, ![32, 320]⟩
abbrev S1x320 : Shape := ⟨2, ![1, 320]⟩
abbrev S320x128 : Shape := ⟨2, ![320, 128]⟩
abbrev S128x640 : Shape := ⟨2, ![128, 640]⟩
abbrev S640x512 : Shape := ⟨2, ![640, 512]⟩
abbrev S1x512 : Shape := ⟨2, ![1, 512]⟩
abbrev S1x128 : Shape := ⟨2, ![1, 128]⟩
abbrev S8x4096x640 : Shape := ⟨3, ![8, 4096, 640]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x5120, .i8⟩
  | .hbm, ⟨1, _⟩ => ⟨S8x4096, .f32⟩
  | .hbm, ⟨2, _⟩ => ⟨S5120x320, .i8⟩
  | .hbm, ⟨3, _⟩ => ⟨S40x640, .i8⟩
  | .hbm, ⟨4, _⟩ => ⟨S40x640, .i8⟩
  | .hbm, ⟨5, _⟩ => ⟨S640, .f32⟩
  | .hbm, ⟨6, _⟩ => ⟨S32768x5120, .i8⟩
  | .hbm, ⟨7, _⟩ => ⟨S1x640, .f32⟩
  | .hbm, ⟨8, _⟩ => ⟨S32768x640, .bf16⟩
  | .hbm, ⟨9, _⟩ => ⟨S8x4096x640, .bf16⟩
  | .local _ .vmem, ⟨0, _⟩ => ⟨S512x5120, .i8⟩
  | .local _ .vmem, ⟨1, _⟩ => ⟨S512x5120, .i8⟩
  | .local _ .vmem, ⟨2, _⟩ => ⟨S8x4096, .f32⟩
  | .local _ .vmem, ⟨3, _⟩ => ⟨S5120x320, .i8⟩
  | .local _ .vmem, ⟨4, _⟩ => ⟨S40x640, .i8⟩
  | .local _ .vmem, ⟨5, _⟩ => ⟨S40x640, .i8⟩
  | .local _ .vmem, ⟨6, _⟩ => ⟨S1x640, .f32⟩
  | .local _ .vmem, ⟨7, _⟩ => ⟨S512x640, .bf16⟩
  | .local _ .vmem, ⟨8, _⟩ => ⟨S512x640, .bf16⟩
  | .local _ .vmem, ⟨9, _⟩ => ⟨S640x5120, .bf16⟩
  | .local _ .vmem, ⟨10, _⟩ => ⟨S640x128, .f32⟩
  | _, _ => ⟨S8x4096x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c8_i32_9 : BitVec 32 := 8#32
  let c0_i32_10 : BitVec 32 := 0#32
  let v25 : BitVec 1 := Scalar.cmpi .eq c8_i32_9 c0_i32_10
  let c1_i32_11 : BitVec 32 := 1#32
  let v26 : BitVec 32 := Scalar.select v25 c1_i32_11 c8_i32_9
  let v27 : BitVec 32 := Scalar.remsi arg0 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c512_i32 : BitVec 32 := 512#32
  let v35 : BitVec 32 := Scalar.muli v34 c512_i32
  v35
def k0_off1 (i : grid0.Coords) : Fin 2 → Nat :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .slt arg0 c0_i32_5
  let v12 : BitVec 32 := Scalar.extui v11
  let v13 : BitVec 32 := Scalar.subi v10 v12
  let c8_i32 : BitVec 32 := 8#32
  let c0_i32_6 : BitVec 32 := 0#32
  let v14 : BitVec 1 := Scalar.cmpi .sgt c8_i32 c0_i32_6
  let v15 : BitVec 32 := Scalar.extui v14
  let c0_i32_7 : BitVec 32 := 0#32
  let v16 : BitVec 1 := Scalar.cmpi .slt c8_i32 c0_i32_7
  let v17 : BitVec 32 := Scalar.extui v16
  let v18 : BitVec 32 := Scalar.subi v15 v17
  let v19 : BitVec 1 := Scalar.cmpi .ne v13 v18
  let v20 : BitVec 32 := Scalar.remsi arg0 c8_i32
  let c0_i32_8 : BitVec 32 := 0#32
  let v21 : BitVec 1 := Scalar.cmpi .ne v20 c0_i32_8
  let v22 : BitVec 1 := Scalar.andi v19 v21
  let v8 : BitVec 32 := Scalar.divsi arg0 c8_i32
  let c1_i32 : BitVec 32 := 1#32
  let v23 : BitVec 32 := Scalar.subi v8 c1_i32
  let v24 : BitVec 32 := Scalar.select v22 v23 v8
  let v37 : Index := Scalar.indexCast v24
  let c8_i32_9 : BitVec 32 := 8#32
  let c0_i32_10 : BitVec 32 := 0#32
  let v25 : BitVec 1 := Scalar.cmpi .eq c8_i32_9 c0_i32_10
  let c1_i32_11 : BitVec 32 := 1#32
  let v26 : BitVec 32 := Scalar.select v25 c1_i32_11 c8_i32_9
  let v27 : BitVec 32 := Scalar.remsi arg0 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c512_i32 : BitVec 32 := 512#32
  let v35 : BitVec 32 := Scalar.muli v34 c512_i32
  let v36 : BitVec 32 := v35
  let v38 : Index := Scalar.indexCast v36
  ![v37.toNat, v38.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5120 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x320 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x640 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x640 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x4096x5120 : Shape := ⟨3, ![8, 4096, 5120]⟩
abbrev S8x4096 : Shape := ⟨2, ![8, 4096]⟩
abbrev S5120x320 : Shape := ⟨2, ![5120, 320]⟩
abbrev S40x640 : Shape := ⟨2, ![40, 640]⟩
abbrev S640 : Shape := ⟨1, ![640]⟩
abbrev S_ : Shape := ⟨0, ![]⟩
abbrev S40x320 : Shape := ⟨2, ![40, 320]⟩
abbrev S40x128x320 : Shape := ⟨3, ![40, 128, 320]⟩
abbrev S40x1x320 : Shape := ⟨3, ![40, 1, 320]⟩
abbrev S8x4096x320 : Shape := ⟨3, ![8, 4096, 320]⟩
abbrev S8x4096x640 : Shape := ⟨3, ![8, 4096, 640]⟩
abbrev S8x4096x1 : Shape := ⟨3, ![8, 4096, 1]⟩
abbrev S1x1x640 : Shape := ⟨3, ![1, 1, 640]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x5120, .i8⟩
  | .hbm, ⟨1, _⟩ => ⟨S8x4096, .f32⟩
  | .hbm, ⟨2, _⟩ => ⟨S5120x320, .i8⟩
  | .hbm, ⟨3, _⟩ => ⟨S40x640, .i8⟩
  | .hbm, ⟨4, _⟩ => ⟨S40x640, .i8⟩
  | .hbm, ⟨5, _⟩ => ⟨S640, .f32⟩
  | .hbm, ⟨6, _⟩ => ⟨S5120x320, .i32⟩
  | .hbm, ⟨7, _⟩ => ⟨S_, .i32⟩
  | .hbm, ⟨8, _⟩ => ⟨S5120x320, .i32⟩
  | .hbm, ⟨9, _⟩ => ⟨S5120x320, .i32⟩
  | .hbm, ⟨10, _⟩ => ⟨S_, .i32⟩
  | .hbm, ⟨11, _⟩ => ⟨S5120x320, .i32⟩
  | .hbm, ⟨12, _⟩ => ⟨S5120x320, .i32⟩
  | .hbm, ⟨13, _⟩ => ⟨S40x320, .i8⟩
  | .hbm, ⟨14, _⟩ => ⟨S40x320, .i8⟩
  | .hbm, ⟨15, _⟩ => ⟨S5120x320, .bf16⟩
  | .hbm, ⟨16, _⟩ => ⟨S40x128x320, .bf16⟩
  | .hbm, ⟨17, _⟩ => ⟨S40x320, .i32⟩
  | .hbm, ⟨18, _⟩ => ⟨S40x320, .bf16⟩
  | .hbm, ⟨19, _⟩ => ⟨S40x1x320, .bf16⟩
  | .hbm, ⟨20, _⟩ => ⟨S40x320, .i32⟩
  | .hbm, ⟨21, _⟩ => ⟨S40x320, .bf16⟩
  | .hbm, ⟨22, _⟩ => ⟨S40x1x320, .bf16⟩
  | .hbm, ⟨23, _⟩ => ⟨S40x128x320, .bf16⟩
  | .hbm, ⟨24, _⟩ => ⟨S40x128x320, .bf16⟩
  | .hbm, ⟨25, _⟩ => ⟨S40x128x320, .bf16⟩
  | .hbm, ⟨26, _⟩ => ⟨S40x128x320, .bf16⟩
  | .hbm, ⟨27, _⟩ => ⟨S5120x320, .bf16⟩
  | .hbm, ⟨28, _⟩ => ⟨S40x320, .i8⟩
  | .hbm, ⟨29, _⟩ => ⟨S40x320, .i8⟩
  | .hbm, ⟨30, _⟩ => ⟨S5120x320, .bf16⟩
  | .hbm, ⟨31, _⟩ => ⟨S40x128x320, .bf16⟩
  | .hbm, ⟨32, _⟩ => ⟨S40x320, .i32⟩
  | .hbm, ⟨33, _⟩ => ⟨S40x320, .bf16⟩
  | .hbm, ⟨34, _⟩ => ⟨S40x1x320, .bf16⟩
  | .hbm, ⟨35, _⟩ => ⟨S40x320, .i32⟩
  | .hbm, ⟨36, _⟩ => ⟨S40x320, .bf16⟩
  | .hbm, ⟨37, _⟩ => ⟨S40x1x320, .bf16⟩
  | .hbm, ⟨38, _⟩ => ⟨S40x128x320, .bf16⟩
  | .hbm, ⟨39, _⟩ => ⟨S40x128x320, .bf16⟩
  | .hbm, ⟨40, _⟩ => ⟨S40x128x320, .bf16⟩
  | .hbm, ⟨41, _⟩ => ⟨S40x128x320, .bf16⟩
  | .hbm, ⟨42, _⟩ => ⟨S5120x320, .bf16⟩
  | .hbm, ⟨43, _⟩ => ⟨S8x4096x5120, .i32⟩
  | .hbm, ⟨44, _⟩ => ⟨S8x4096x5120, .bf16⟩
  | .hbm, ⟨45, _⟩ => ⟨S8x4096x320, .f32⟩
  | .hbm, ⟨46, _⟩ => ⟨S8x4096x320, .f32⟩
  | .hbm, ⟨47, _⟩ => ⟨S8x4096x640, .f32⟩
  | .hbm, ⟨48, _⟩ => ⟨S8x4096x1, .f32⟩
  | .hbm, ⟨49, _⟩ => ⟨S8x4096x640, .f32⟩
  | .hbm, ⟨50, _⟩ => ⟨S8x4096x640, .f32⟩
  | .hbm, ⟨51, _⟩ => ⟨S1x1x640, .f32⟩
  | .hbm, ⟨52, _⟩ => ⟨S8x4096x640, .f32⟩
  | .hbm, ⟨53, _⟩ => ⟨S8x4096x640, .f32⟩
  | .hbm, ⟨54, _⟩ => ⟨S8x4096x640, .bf16⟩
  | _, _ => ⟨S8x4096x5120, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Proof.Tile.lean ====
/-
  The 80 tiles the first grid point stores in the weight scratch, as one family: group `g` (of 40) and half `h` (0 for the lower
  codes, 1 for the upper ones).  `pieces_eq` says that the stores the run finds are this family.
-/
module

public import proofs.«01_k».proof.Proof.Gen.KernelIdeal.Frame

@[expose] public section

set_option maxRecDepth 16384

noncomputable section

namespace Cert.Proof.Tile

open Idealize.ShloMosaic Idealize.SL.Sem Cert.KernelIdeal
open Cert.KernelIdeal.Gen Idealize.ShloMosaic.TcCoe

variable {F : FTy → Type} [FloatOps F]

/-- Codes times scales minus zeros, transposed: what one store of the weight scratch writes. -/
def tile (codes : IVec S128x320 8) (s z : Vec F S1x320 .i8) : FVec F S320x128 .bf16 :=
  shapeCast S320x128 (transpose S320x128 [1, 0]
    (subf (mulf (sitofp .bf16 codes) (broadcastTo S128x320 (sitofp .bf16 (extui 32 s natLt_8_32 : IVec S1x320 32)) broadcasts_S1x320_S128x320))
      (broadcastTo S128x320 (sitofp .bf16 (extui 32 z natLt_8_32 : IVec S1x320 32)) broadcasts_S1x320_S128x320))
    transposes_S128x320_p1_0_S320x128) shapeCasts_S320x128_S320x128

/-- The codes of a packed block: the lower ones for half 0, the upper ones for half 1. -/
def codes (half : Fin 2) (v : Vec F S128x320 .i8) : IVec S128x320 8 :=
  match half with
  | 0 => bitcast S128x320 8 (andi (bitcast S32x320 32 v bitcasts_S128x320_w8_S32x320_w32) (broadcast S32x320 252645135#32))
      bitcasts_S32x320_w32_S128x320_w8
  | 1 => bitcast S128x320 8 (andi (shrui (bitcast S32x320 32 v bitcasts_S128x320_w8_S32x320_w32) (broadcast S32x320 4#32))
      (broadcast S32x320 252645135#32)) bitcasts_S32x320_w32_S128x320_w8

/-- Each tile lies in the weight scratch. -/
theorem inbW (half : Fin 2) (g : Nat) (hg : g < 40) :
    ∀ a, (![half.val * 320, g * 128] : Fin 2 → Nat) a + S320x128.size a ≤ S640x5120.size a :=
  Fin.forall_fin_two.mpr ⟨by show half.val * 320 + 320 ≤ 640; omega, by show g * 128 + 128 ≤ 5120; omega⟩

/-- The 128 rows of each group lie in the packed weights. -/
theorem inbP (g : Nat) (hg : g < 40) : ∀ a, (![g * 128, 0] : Fin 2 → Nat) a + S128x320.size a ≤ S5120x320.size a :=
  Fin.forall_fin_two.mpr ⟨by show g * 128 + 128 ≤ 5120; omega, by show 0 + 320 ≤ 320; omega⟩

/-- Each group's half row lies in the scales and in the zeros. -/
theorem inbS (half : Fin 2) (g : Nat) (hg : g < 40) :
    ∀ a, (![g, half.val * 320] : Fin 2 → Nat) a + S1x320.size a ≤ S40x640.size a :=
  Fin.forall_fin_two.mpr ⟨by show g + 1 ≤ 40; omega, by show half.val * 320 + 320 ≤ 640; omega⟩

section Pieces

variable (arg3 : Memref sig .tc .vmem S5120x320 .i8) (harg3 : arg3.IsWhole)
  (arg4 : Memref sig .tc .vmem S40x640 .i8) (harg4 : arg4.IsWhole)
  (arg5 : Memref sig .tc .vmem S40x640 .i8) (harg5 : arg5.IsWhole)
  (x2 : Vec F S5120x320 .i8) (x3 x4 : Vec F S40x640 .i8)

/-- The store of group `g`, half `half`. -/
def piece (half : Fin 2) (g : Nat) (hg : g < 40) : View.Piece (Elt F) S640x5120 .bf16 :=
  ⟨Rect.unit ![half.val * 320, g * 128] S320x128.size (inbW half g hg),
    tile (F := F) (codes (F := F) half (View.readAt (Elt F) arg3.view (Rect.unit (s := S5120x320) ![g * 128, 0] S128x320.size (inbP g hg)).toLoadRect (harg3.unread x2)))
      (View.readAt (Elt F) arg4.view (Rect.unit (s := S40x640) ![g, half.val * 320] S1x320.size (inbS half g hg)).toLoadRect (harg4.unread x3))
      (View.readAt (Elt F) arg5.view (Rect.unit (s := S40x640) ![g, half.val * 320] S1x320.size (inbS half g hg)).toLoadRect (harg5.unread x4))⟩

/-- The stores of the groups below `n`, the last one first. -/
def pieces : (n : Nat) → n ≤ 40 → List (View.Piece (Elt F) S640x5120 .bf16)
  | 0, _ => []
  | n + 1, h => piece arg3 harg3 arg4 harg4 arg5 harg5 x2 x3 x4 1 n h ::
      piece arg3 harg3 arg4 harg4 arg5 harg5 x2 x3 x4 0 n h :: pieces n (Nat.le_of_succ_le h)

/-- The stores the run of the first point finds are the family. -/
theorem pieces_eq (c : Dev nD) : kernelRun0_A.sl.HS0_80 c arg3 harg3 arg4 harg4 arg5 harg5 x2 x3 x4
    = pieces arg3 harg3 arg4 harg4 arg5 harg5 x2 x3 x4 40 (Nat.le_refl 40) := rfl

/-- Every store of the family is the store of some group and half. -/
theorem exists_of_mem_pieces {p : View.Piece (Elt F) S640x5120 .bf16} : ∀ (n : Nat) (h : n ≤ 40),
    p ∈ pieces arg3 harg3 arg4 harg4 arg5 harg5 x2 x3 x4 n h →
      ∃ (half : Fin 2) (g : Nat) (hg : g < 40), p = piece arg3 harg3 arg4 harg4 arg5 harg5 x2 x3 x4 half g hg
  | 0, _, hp => absurd hp List.not_mem_nil
  | n + 1, h, hp => by
    rcases List.mem_cons.mp hp with rfl | hp
    · exact ⟨1, n, h, rfl⟩
    rcases List.mem_cons.mp hp with rfl | hp
    · exact ⟨0, n, h, rfl⟩
    exact exists_of_mem_pieces n _ hp

end Pieces

end Cert.Proof.Tile

end
-- ==== Proof.Codes.lean ====
/-
  What the kernel's word trick does to each byte.  Four bytes of a column are read as one 32-bit word, the word is masked with
  0x0F0F0F0F (after a shift right by four, for the upper codes), and the word is read as four bytes again.  Byte by byte this
  is `x &&& 15` and `x >>> 4`: the two four-bit codes of the byte.  The last two lemmas say that the reference, which widens a
  byte to 32 bits first, finds the same two numbers.
-/
module

public import Idealize.ShloMosaic.Lib.BitcastFour
public import Idealize.ShloMosaic.PureOps.Vector
public import Mathlib.Tactic.IntervalCases

@[expose] public section

namespace Cert.Proof.Codes

open Idealize.ShloMosaic

/-- The lower four-bit code of a packed byte. -/
def lo (b : BitVec 8) : BitVec 8 := b &&& 15#8

/-- The upper four-bit code of a packed byte. -/
def hi (b : BitVec 8) : BitVec 8 := b >>> 4

/-- The mask 0x0F0F0F0F keeps the four low bits of each of its bytes. -/
theorem mask_getLsbD (a : Nat) (ha : a < 4) (q : Nat) (hq : q < 8) :
    (252645135#32 : BitVec 32).getLsbD (8 * a + q) = (15#8 : BitVec 8).getLsbD q := by
  interval_cases a <;> interval_cases q <;> rfl

section Bytes

variable {R r n : Nat}

/-- Bytes read as words, the words changed one by one by `f`, and read as bytes again: if bit `8 a + q` of `f w` is bit
    `8 a + q'` of `w` together with the condition `b q`, then each byte's bit `q` is its own bit `q'` together with `b q`. -/
theorem byteOfWord (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (f : BitVec 32 → BitVec 32) (g : BitVec 8 → BitVec 8)
    (hfg : ∀ (w : BitVec 32) (y : BitVec 8) (a : Nat), a < 4 → (∀ q < 8, w.getLsbD (8 * a + q) = y.getLsbD q) →
      ∀ q < 8, (f w).getLsbD (8 * a + q) = (g y).getLsbD q)
    (i : (⟨2, ![R, n]⟩ : Shape).Idx) :
    bitcast ⟨2, ![R, n]⟩ 8 (fun j => f (bitcast ⟨2, ![r, n]⟩ 32 x h j)) h' i = g (x i) := by
  have hrow : (⟨2, ![R, n]⟩ : Shape).row i = (i 0).val := rfl
  apply BitVec.eq_of_getLsbD_eq
  intro q hq
  rw [bitcast_getLsbD _ h' i q hq (by decide)]
  have em : ((⟨2, ![R, n]⟩ : Shape).row i * 8 + q) % 32 = 8 * ((i 0).val % 4) + q := by rw [hrow]; omega
  rw [em]
  refine hfg _ (x i) _ (Nat.mod_lt _ (by decide)) (fun q' hq' => ?_) q hq
  rw [bitcast_getLsbD x h _ _ (by omega) (by decide)]
  have er : (⟨2, ![r, n]⟩ : Shape).row (h'.srcIdx i (((⟨2, ![R, n]⟩ : Shape).row i * 8 + q) / 32) (fun a ha =>
      (Nat.div_lt_iff_lt_mul (by decide)).2 (h'.pos_lt i q hq a ha))) = (i 0).val / 4 := by
    show (h'.srcIdx i _ _ (0 : Fin 2)).val = _
    rw [h'.srcIdx_row i _ _ (0 : Fin 2) rfl, hrow]
    omega
  have e1 : ((i 0).val / 4 * 32 + (8 * ((i 0).val % 4) + q')) / 8 = (i 0).val := by omega
  have e2 : ((i 0).val / 4 * 32 + (8 * ((i 0).val % 4) + q')) % 8 = q' := by omega
  have ei : ∀ (j : (⟨2, ![r, n]⟩ : Shape).Idx) (p : Nat) (hp), j (1 : Fin 2) = i (1 : Fin 2) → p = (i 0).val →
      h.srcIdx j p hp = i := by
    intro j p hp hj hpi
    funext c
    match c with
    | ⟨0, _⟩ => exact Fin.ext ((h.srcIdx_row j p hp ⟨0, Nat.zero_lt_two⟩ rfl).trans hpi)
    | ⟨1, _⟩ => exact Fin.ext ((h.srcIdx_other j p hp ⟨1, Nat.one_lt_two⟩ (by show ¬ 1 + 2 = 2; omega)).trans
        (congrArg Fin.val hj))
  rw [ei _ _ _ _ (by rw [er, e1])]
  · rw [er, e2]
  · exact Fin.ext (h'.srcIdx_other i _ _ ⟨1, Nat.one_lt_two⟩ (by show ¬ 1 + 2 = 2; omega))

/-- Masking the words keeps the lower code of every byte. -/
theorem loBytes (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (i : (⟨2, ![R, n]⟩ : Shape).Idx) :
    bitcast ⟨2, ![R, n]⟩ 8 (andi (bitcast ⟨2, ![r, n]⟩ 32 x h) (broadcast ⟨2, ![r, n]⟩ 252645135#32)) h' i = lo (x i) := by
  refine byteOfWord x h h' (fun w => IntOp.andi w 252645135#32) lo (fun w y a ha hw q hq => ?_) i
  show (w &&& 252645135#32).getLsbD _ = (y &&& 15#8).getLsbD q
  rw [BitVec.getLsbD_and, BitVec.getLsbD_and, hw q hq, mask_getLsbD a ha q hq]

/-- Shifting the words right by four and masking them keeps the upper code of every byte. -/
theorem hiBytes (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (i : (⟨2, ![R, n]⟩ : Shape).Idx) :
    bitcast ⟨2, ![R, n]⟩ 8 (andi (shrui (bitcast ⟨2, ![r, n]⟩ 32 x h) (broadcast ⟨2, ![r, n]⟩ 4#32))
      (broadcast ⟨2, ![r, n]⟩ 252645135#32)) h' i = hi (x i) := by
  refine byteOfWord x h h' (fun w => IntOp.andi (IntOp.shrui .vector w 4#32) 252645135#32) hi (fun w y a ha hw q hq => ?_) i
  show ((w >>> (4#32)) &&& 252645135#32).getLsbD _ = (y >>> 4).getLsbD q
  rw [BitVec.getLsbD_and, mask_getLsbD a ha q hq, BitVec.ushiftRight_eq', BitVec.getLsbD_ushiftRight, BitVec.getLsbD_ushiftRight]
  have e4 : (4#32 : BitVec 32).toNat + (8 * a + q) = 8 * a + (4 + q) := by
    show 4 + (8 * a + q) = _
    omega
  rw [e4]
  by_cases h4 : q < 4
  · rw [hw (4 + q) (by omega)]
    have : (15#8 : BitVec 8).getLsbD q = true := by interval_cases q <;> rfl
    rw [this, Bool.and_true]
  · have : (15#8 : BitVec 8).getLsbD q = false := by interval_cases q <;> first | rfl | omega
    rw [this, Bool.and_false, BitVec.getLsbD_of_ge y (4 + q) (by omega)]

end Bytes

/-- The reference's lower code: the byte widened with zeros, then masked with 15. -/
theorem lo_wide (b : BitVec 8) : ((b.setWidth 32) &&& 15#32).toInt = (lo b).toInt := by
  revert b; decide +kernel

/-- The reference's upper code: the byte widened with zeros, then shifted right by four. -/
theorem hi_wide (b : BitVec 8) : ((b.setWidth 32).sshiftRight' 4#32).toInt = (hi b).toInt := by
  revert b; decide +kernel

end Cert.Proof.Codes
-- ==== Proof.Weights.lean ====
/-
  The weight the packed bytes stand for, and the weight scratch: after the 80 stores it holds the weight matrix, transposed.
-/
module

public import proofs.«01_k».proof.Proof.Tile
public import proofs.«01_k».proof.Proof.Codes
public import Idealize.ShloMosaic.Lib.Pointwise
public import Idealize.ShloMosaic.Lib.Pipeline.ValueKit.Tiles
public import Idealize.ShloMosaic.Lib.WholeRead

@[expose] public section

set_option maxRecDepth 16384

noncomputable section

namespace Cert.Proof.Weights

open Idealize.ShloMosaic Idealize.SL.Sem Cert.KernelIdeal
open Cert.KernelIdeal.Gen Idealize.ShloMosaic.TcCoe
open Cert.Proof.Codes Cert.Proof.Tile

/-- The value of a byte read as an unsigned number. -/
def unsigned (b : BitVec 8) : EReal := (((b.setWidth 32).toInt : ℝ) : EReal)

/-- The value of a four-bit code, held in a byte. -/
def code (b : BitVec 8) : EReal := ((b.toInt : ℝ) : EReal)

/-- The code of row `k`, column `n`: columns below 320 are the lower codes of the packed columns, the others the upper ones. -/
def codeAt (p : Vec Ideal S5120x320 .i8) (k : Fin 5120) (n : Fin 640) : BitVec 8 :=
  if h : n.val < 320 then lo (p (ix2 k ⟨n.val, h⟩)) else hi (p (ix2 k ⟨n.val - 320, by omega⟩))

/-- The weight of row `k`, column `n`: its code times its group's scale, minus its group's zero. -/
def weight (p : Vec Ideal S5120x320 .i8) (s z : Vec Ideal S40x640 .i8) (k : Fin 5120) (n : Fin 640) : EReal :=
  code (codeAt p k n) * unsigned (s (ix2 ⟨k.val / 128, by omega⟩ n)) - unsigned (z (ix2 ⟨k.val / 128, by omega⟩ n))

/-- One tile at an index: code times scale minus zero. -/
theorem tile_apply (q : IVec S128x320 8) (s z : Vec Ideal S1x320 .i8) (r : Fin 320) (l : Fin 128) :
    tile (F := Ideal) q s z (ix2 r l) = code (q (ix2 l r)) * unsigned (s (ix2 0 r)) - unsigned (z (ix2 0 r)) := by
  unfold code unsigned
  pointwise [tile]
  rfl

/-- The codes of a block, at an index. -/
theorem codes_apply (half : Fin 2) (v : Vec Ideal S128x320 .i8) (i : S128x320.Idx) :
    codes (F := Ideal) half v i = if half = 0 then lo (v i) else hi (v i) := by
  match half with
  | 0 => rw [if_pos rfl]; exact loBytes (R := 128) (r := 32) (n := 320) v bitcasts_S128x320_w8_S32x320_w32 bitcasts_S32x320_w32_S128x320_w8 i
  | 1 => rw [if_neg (by decide)]; exact hiBytes (R := 128) (r := 32) (n := 320) v bitcasts_S128x320_w8_S32x320_w32 bitcasts_S32x320_w32_S128x320_w8 i

section Scratch

variable (arg3 : Memref sig .tc .vmem S5120x320 .i8) (harg3 : arg3.IsWhole)
  (arg4 : Memref sig .tc .vmem S40x640 .i8) (harg4 : arg4.IsWhole)
  (arg5 : Memref sig .tc .vmem S40x640 .i8) (harg5 : arg5.IsWhole)
  (x2 : Vec Ideal S5120x320 .i8) (x3 x4 : Vec Ideal S40x640 .i8)

/-- One store of the weight scratch writes the weights of its rectangle. -/
theorem piece_apply (half : Fin 2) (g : Nat) (hg : g < 40)
    (x : (piece (F := Ideal) arg3 harg3 arg4 harg4 arg5 harg5 x2 x3 x4 half g hg).1.shape.Idx) (y : S640x5120.Idx)
    (hx : (piece (F := Ideal) arg3 harg3 arg4 harg4 arg5 harg5 x2 x3 x4 half g hg).1.emb x = y) :
    (piece (F := Ideal) arg3 harg3 arg4 harg4 arg5 harg5 x2 x3 x4 half g hg).2 x = weight x2 x3 x4 (y 1) (y 0) := by
  subst hx
  obtain ⟨r, l, rfl⟩ : ∃ (r : Fin 320) (l : Fin 128), x = ix2 r l := ⟨x 0, x 1, by
    funext a; match a with
      | ⟨0, _⟩ => rfl
      | ⟨1, _⟩ => rfl⟩
  refine (tile_apply _ _ _ r l).trans ?_
  rw [codes_apply, harg3.readAt_unread, harg4.readAt_unread, harg5.readAt_unread]
  have hr := r.isLt
  have hl := l.isLt
  have hh := half.isLt
  have ek : (piece (F := Ideal) arg3 harg3 arg4 harg4 arg5 harg5 x2 x3 x4 half g hg).1.emb (ix2 r l) 1
      = (⟨g * 128 + l.val, by omega⟩ : Fin 5120) := Fin.ext (by show g * 128 + 1 * l.val = g * 128 + l.val; omega)
  have en : (piece (F := Ideal) arg3 harg3 arg4 harg4 arg5 harg5 x2 x3 x4 half g hg).1.emb (ix2 r l) 0
      = (⟨half.val * 320 + r.val, by omega⟩ : Fin 640) := Fin.ext (by show half.val * 320 + 1 * r.val = half.val * 320 + r.val; omega)
  rw [ek, en]
  have ep : (Rect.unit (s := S5120x320) ![g * 128, 0] S128x320.size (inbP g hg)).idx (ix2 l r)
      = ix2 (⟨g * 128 + l.val, by omega⟩ : Fin 5120) r := by
    funext a
    match a with
    | ⟨0, _⟩ => exact Fin.ext (by show g * 128 + 1 * l.val = g * 128 + l.val; omega)
    | ⟨1, _⟩ => exact Fin.ext (by show 0 + 1 * r.val = r.val; omega)
  have es : (Rect.unit (s := S40x640) ![g, half.val * 320] S1x320.size (inbS half g hg)).idx (ix2 0 r)
      = ix2 (⟨(g * 128 + l.val) / 128, by omega⟩ : Fin 40) (⟨half.val * 320 + r.val, by omega⟩ : Fin 640) := by
    funext a
    match a with
    | ⟨0, _⟩ => exact Fin.ext (by show g + 1 * 0 = (g * 128 + l.val) / 128; omega)
    | ⟨1, _⟩ => exact Fin.ext (by show half.val * 320 + 1 * r.val = half.val * 320 + r.val; omega)
  erw [ep, es]
  unfold weight codeAt
  congr 3
  rcases (show half = 0 ∨ half = 1 by omega) with rfl | rfl
  · rw [if_pos rfl, dif_pos (by show 0 * 320 + r.val < 320; omega)]
    congr 3
    exact Fin.ext (by show r.val = 0 * 320 + r.val; omega)
  · rw [if_neg (by decide), dif_neg (by show ¬ 1 * 320 + r.val < 320; omega)]
    congr 3
    exact Fin.ext (by show r.val = 1 * 320 + r.val - 320; omega)

/-- The canonical contents of the weight scratch after the 80 stores: the weights, transposed. -/
theorem canon_pieces (y : S640x5120.Idx) :
    View.canon (pieces (F := Ideal) arg3 harg3 arg4 harg4 arg5 harg5 x2 x3 x4 40 (Nat.le_refl 40)) y = weight x2 x3 x4 (y 1) (y 0) := by
  refine View.canon_eq_of_allAt _ y _
    (View.cover_of_tiledL (pieces (F := Ideal) arg3 harg3 arg4 harg4 arg5 harg5 x2 x3 x4 40 (Nat.le_refl 40)) S320x128.size (by sl_kernel_rfl) y)
    fun p hp x hx => ?_
  obtain ⟨half, g, hg, rfl⟩ := exists_of_mem_pieces arg3 harg3 arg4 harg4 arg5 harg5 x2 x3 x4 40 _ hp
  exact piece_apply arg3 harg3 arg4 harg4 arg5 harg5 x2 x3 x4 half g hg x y hx

end Scratch

end Cert.Proof.Weights

end
-- ==== Proof.Lanes.lean ====
/-
  The four pieces of 128 rows each point stores in its output block, as one family, and what the block holds after them.
-/
module

public import proofs.«01_k».proof.Proof.Gen.KernelIdeal.Frame
public import Idealize.ShloMosaic.Lib.Pointwise
public import Idealize.ShloMosaic.Lib.Pipeline.ValueKit.Tiles

@[expose] public section

set_option maxRecDepth 16384

noncomputable section

namespace Cert.Proof.Lanes

open Idealize.ShloMosaic Idealize.SL.Sem Cert.KernelIdeal
open Cert.KernelIdeal.Gen Idealize.ShloMosaic.TcCoe

section Family

variable {F : FTy → Type} [FloatOps F]

/-- The product has four runs of 128 columns. -/
theorem slicesP (j : Nat) (hj : j < 4) : S640x512.Slices ![0, j * 128] S640x128 :=
  ⟨rfl, Fin.forall_fin_two.mpr ⟨by show 0 + 640 ≤ 640; omega, by show j * 128 + 128 ≤ 512; omega⟩⟩

/-- The row scales have four runs of 128. -/
theorem slicesX (j : Nat) (hj : j < 4) : S1x512.Slices ![0, j * 128] S1x128 :=
  ⟨rfl, Fin.forall_fin_two.mpr ⟨by show 0 + 1 ≤ 1; omega, by show j * 128 + 128 ≤ 512; omega⟩⟩

/-- The four groups of 128 rows lie in the block. -/
theorem inbY (j : Nat) (hj : j < 4) : ∀ a, (![j * 128, 0] : Fin 2 → Nat) a + S128x640.size a ≤ S512x640.size a :=
  Fin.forall_fin_two.mpr ⟨by show j * 128 + 128 ≤ 512; omega, by show 0 + 640 ≤ 640; omega⟩

/-- Rows `128 j` to `128 j + 127` of the block: the product times the row scales times the column scales, transposed. -/
def lane (j : Nat) (hj : j < 4) (P : FVec F S640x512 .f32) (xs : Vec F S1x512 .f32) (W : Vec F S640x128 .f32) : FVec F S128x640 .bf16 :=
  transpose S128x640 [1, 0] (truncf .bf16
    (mulf (mulf (extractStridedSlice S640x128 ![0, j * 128] P (slicesP j hj))
      (broadcastTo S640x128 (extractStridedSlice S1x128 ![0, j * 128] xs (slicesX j hj)) broadcasts_S1x128_S640x128)) W)
    bitsLt_bf16_f32) transposes_S640x128_p1_0_S128x640

/-- The store of piece `j`. -/
def lanePiece (j : Nat) (hj : j < 4) (P : FVec F S640x512 .f32) (xs : Vec F S1x512 .f32) (W : Vec F S640x128 .f32) :
    View.Piece (Elt F) S512x640 .bf16 :=
  ⟨Rect.unit ![j * 128, 0] S128x640.size (inbY j hj), lane j hj P xs W⟩

/-- The stores of the pieces below `n`, the last one first. -/
def lanes (P : FVec F S640x512 .f32) (xs : Vec F S1x512 .f32) (W : Vec F S640x128 .f32) :
    (n : Nat) → n ≤ 4 → List (View.Piece (Elt F) S512x640 .bf16)
  | 0, _ => []
  | n + 1, h => lanePiece n h P xs W :: lanes P xs W n (Nat.le_of_succ_le h)

/-- Every store of the family is the store of some piece. -/
theorem exists_of_mem_lanes (P : FVec F S640x512 .f32) (xs : Vec F S1x512 .f32) (W : Vec F S640x128 .f32)
    {p : View.Piece (Elt F) S512x640 .bf16} : ∀ (n : Nat) (h : n ≤ 4), p ∈ lanes P xs W n h →
      ∃ (j : Nat) (hj : j < 4), p = lanePiece j hj P xs W
  | 0, _, hp => absurd hp List.not_mem_nil
  | n + 1, h, hp => by
    rcases List.mem_cons.mp hp with rfl | hp
    · exact ⟨n, h, rfl⟩
    exact exists_of_mem_lanes P xs W n _ hp

end Family

/-- What a point leaves in row `r`, column `n` of its block. -/
def rowVal (P : FVec Ideal S640x512 .f32) (xs : Vec Ideal S1x512 .f32) (W : Vec Ideal S640x128 .f32) (r : Fin 512) (n : Fin 640) : EReal :=
  P (ix2 n r) * xs (ix2 0 r) * W (ix2 n ⟨r.val % 128, Nat.mod_lt _ (by decide)⟩)

/-- One piece at an index. -/
theorem lane_apply (j : Nat) (hj : j < 4) (P : FVec Ideal S640x512 .f32) (xs : Vec Ideal S1x512 .f32) (W : Vec Ideal S640x128 .f32)
    (r : Fin 128) (n : Fin 640) : lane j hj P xs W (ix2 r n)
      = P (ix2 n ⟨j * 128 + r.val, by omega⟩) * xs (ix2 0 ⟨j * 128 + r.val, by omega⟩) * W (ix2 n r) := by
  pointwise [lane]

/-- The block after the four stores. -/
theorem canon_lanes (P : FVec Ideal S640x512 .f32) (xs : Vec Ideal S1x512 .f32) (W : Vec Ideal S640x128 .f32) (y : S512x640.Idx) :
    View.canon (lanes P xs W 4 (Nat.le_refl 4)) y = rowVal P xs W (y 0) (y 1) := by
  refine View.canon_eq_of_allAt _ y _ (View.cover_of_tiledL (lanes P xs W 4 (Nat.le_refl 4)) S128x640.size (by sl_kernel_rfl) y)
    fun p hp x hx => ?_
  obtain ⟨j, hj, rfl⟩ := exists_of_mem_lanes P xs W 4 _ hp
  obtain ⟨r, n, rfl⟩ : ∃ (r : Fin 128) (n : Fin 640), x = ix2 r n := ⟨x 0, x 1, by
    funext a; match a with
      | ⟨0, _⟩ => rfl
      | ⟨1, _⟩ => rfl⟩
  refine (lane_apply j hj P xs W r n).trans ?_
  subst hx
  have hr := r.isLt
  have e0 : (lanePiece j hj P xs W).1.emb (ix2 r n) 0 = (⟨j * 128 + r.val, by omega⟩ : Fin 512) :=
    Fin.ext (by show j * 128 + 1 * r.val = j * 128 + r.val; omega)
  have e1 : (lanePiece j hj P xs W).1.emb (ix2 r n) 1 = n := Fin.ext (by show 0 + 1 * n.val = n.val; omega)
  rw [e0, e1]
  unfold rowVal
  congr 3
  exact Fin.ext (by show r.val = (j * 128 + r.val) % 128; omega)

end Cert.Proof.Lanes

end
-- ==== Proof.Cases.lean ====
/-
  The terms the run names for its two cases, as reads of the two families of stores (the weight tiles and the output's pieces).
-/
module

public import proofs.«01_k».proof.Proof.Tile
public import proofs.«01_k».proof.Proof.Lanes
public import Idealize.ShloMosaic.Lib.VecWindow

@[expose] public section

set_option maxRecDepth 16384

noncomputable section

namespace Cert.Proof.Cases

open Idealize.ShloMosaic Idealize.SL.Sem Cert.KernelIdeal
open Cert.KernelIdeal.Gen Idealize.ShloMosaic.TcCoe
open Cert.Proof.Tile Cert.Proof.Lanes

variable {F : FTy → Type} [FloatOps F]
variable (c : Dev nD) (i : grid0.Coords) (arg1 : Memref sig .tc .vmem S512x5120 .i8) (harg1 : arg1.IsWhole) (arg2 : Memref sig .tc .vmem S8x4096 .f32) (harg2 : arg2.IsWhole)
  (arg3 : Memref sig .tc .vmem S5120x320 .i8) (harg3 : arg3.IsWhole) (arg4 : Memref sig .tc .vmem S40x640 .i8) (harg4 : arg4.IsWhole)
  (arg5 : Memref sig .tc .vmem S40x640 .i8) (harg5 : arg5.IsWhole) (arg6 : Memref sig .tc .vmem S1x640 .f32) (harg6 : arg6.IsWhole)
  (arg7 : Memref sig .tc .vmem S512x640 .bf16) (harg7 : arg7.IsWhole) (arg8 : Memref sig .tc .vmem S640x5120 .bf16) (harg8 : arg8.IsWhole)
  (arg9 : Memref sig .tc .vmem S640x128 .f32) (harg9 : arg9.IsWhole)
  (x0 : Vec F S512x5120 .i8) (x1 : Vec F S8x4096 .f32) (x2 : Vec F S5120x320 .i8) (x3 x4 : Vec F S40x640 .i8) (x5 : Vec F S1x640 .f32)
  (xs0 : Vec F S640x5120 .bf16) (xs1 : Vec F S640x128 .f32)

/-- The first point's weight scratch: the 80 tiles, read back. -/
theorem sout_A_0 (hc0 : cond0_0 i) : sout0_A_0 c i arg1 harg1 arg2 harg2 arg3 harg3 arg4 harg4 arg5 harg5 arg6 harg6 arg7 harg7 arg8 harg8 arg9 harg9 hc0 x0 x1 x2 x3 x4 x5
    = View.canon (pieces arg3 harg3 arg4 harg4 arg5 harg5 x2 x3 x4 40 (Nat.le_refl 40)) := by
  unfold sout0_A_0
  rw [View.read_writes_junk_eq_canon]
  rfl

/-- What the first point reads back from the weight scratch: the 80 tiles. -/
theorem read_A_0 : kernelRun0_A.sl.v6 c arg3 harg3 arg4 harg4 arg5 harg5 arg8 x2 x3 x4
    = View.canon (pieces arg3 harg3 arg4 harg4 arg5 harg5 x2 x3 x4 40 (Nat.le_refl 40)) := by
  unfold kernelRun0_A.sl.v6
  rw [pieces_eq, View.readCov_eq_canon']
  exact funext fun y => congrArg _ (Rect.emb_unit_full inb_S640x5120_S640x5120_0_0 y)

/-- The row scales a point loads. -/
def loadX : Vec F S1x512 .f32 :=
  View.readAt (Elt F) arg2.view (Rect.unit (s := S8x4096) (k0_off1 i) S1x512.size (k0_off1_inb i)).toLoadRect (harg2.unread x1)

/-- The first point's output block: the four pieces, read back. -/
theorem out_A (hc0 : cond0_0 i) : out0_A_6 c i arg1 harg1 arg2 harg2 arg3 harg3 arg4 harg4 arg5 harg5 arg6 harg6 arg7 harg7 arg8 harg8 arg9 harg9 hc0 x0 x1 x2 x3 x4 x5
    = View.canon (lanes (kernelRun0_A.sl.r_84 c arg1 harg1 arg3 harg3 arg4 harg4 arg5 harg5 arg8 x0 x2 x3 x4) (loadX i arg2 harg2 x1)
        (kernelRun0_A.sl.v44 c arg6 harg6 arg9 x5) 4 (Nat.le_refl 4)) := by
  unfold out0_A_6
  rw [View.read_writes_junk_eq_canon]
  rfl

/-- A later point's output block: the four pieces, read back. -/
theorem out_B (hc0 : ¬ cond0_0 i) : out0_B_6 c i arg1 harg1 arg2 harg2 arg3 harg3 arg4 harg4 arg5 harg5 arg6 harg6 arg7 harg7 arg8 harg8 arg9 harg9 hc0 x0 x1 x2 x3 x4 x5 xs0 xs1
    = View.canon (lanes (kernelRun0_B.sl.r c arg1 harg1 arg8 harg8 x0 xs0) (loadX i arg2 harg2 x1)
        (View.readAt (Elt F) arg9.view (Rect.unit ![0, 0] S640x128.size inb_S640x128_S640x128_0_0).toLoadRect (harg9.unread xs1))
        4 (Nat.le_refl 4)) := by
  unfold out0_B_6
  rw [View.read_writes_junk_eq_canon]
  rfl

end Cert.Proof.Cases

end
-- ==== Proof.Points.lean ====
/-
  What one grid point leaves, whichever of its two cases runs: the first point fills the two scratches and uses them, every later
  point uses what it finds.
-/
module

public import proofs.«01_k».proof.Proof.Weights
public import proofs.«01_k».proof.Proof.Cases
public import Idealize.ShloMosaic.Lib.VecWindow

@[expose] public section

set_option maxRecDepth 16384

noncomputable section

namespace Cert.Proof.Points

open Idealize.ShloMosaic Idealize.SL.Sem Cert.KernelIdeal
open Cert.KernelIdeal.Gen Idealize.ShloMosaic.TcCoe
open Cert.Proof.Weights Cert.Proof.Tile Cert.Proof.Lanes

/-- The weight scratch: row `n`, column `k` holds the weight of row `k`, column `n`. -/
def wt (p : Vec Ideal S5120x320 .i8) (s z : Vec Ideal S40x640 .i8) : Vec Ideal S640x5120 .bf16 :=
  fun y => weight p s z (y 1) (y 0)

/-- The column scale scratch: row `n` holds column `n`'s scale, 128 times. -/
def wcb (w : Vec Ideal S1x640 .f32) : Vec Ideal S640x128 .f32 :=
  fun y => w (ix2 0 (y 0))

/-- The row scales a point loads: 512 of them, from where the point's offsets say. -/
def rowScales (i : grid0.Coords) (x1 : Vec Ideal S8x4096 .f32) : Vec Ideal S1x512 .f32 :=
  fun y => x1 ((Rect.unit (s := S8x4096) (k0_off1 i) S1x512.size (k0_off1_inb i)).idx y)

/-- The product of the weight scratch with the codes of a block of rows. -/
theorem product_apply (x0 : Vec Ideal S512x5120 .i8) (W : Vec Ideal S640x5120 .bf16) (n : Fin 640) (r : Fin 512) :
    k0_pay198 (F := Ideal) x0 W (ix2 n r) = ∑ k : Fin 5120, W (ix2 n k) * code (x0 (ix2 r k)) := by
  unfold code
  pointwise [k0_pay198]
  rfl

/-- The broadcast column scales. -/
theorem scales_eq (x5 : Vec Ideal S1x640 .f32) : k0_pay197 (F := Ideal) x5 = wcb x5 := by
  funext y
  unfold wcb
  pointwise [k0_pay197]

/-- What a point leaves in row `r`, column `n` of its block: the sum over `k` of weight times code, times the row's scale, times
    the column's. -/
def blockVal (i : grid0.Coords) (x0 : Vec Ideal S512x5120 .i8) (x1 : Vec Ideal S8x4096 .f32) (p : Vec Ideal S5120x320 .i8)
    (s z : Vec Ideal S40x640 .i8) (w : Vec Ideal S1x640 .f32) (r : Fin 512) (n : Fin 640) : EReal :=
  (∑ k : Fin 5120, weight p s z k n * code (x0 (ix2 r k))) * rowScales i x1 (ix2 0 r) * w (ix2 0 n)

/-- The stored entries of a block, over the filled scratches and the loaded row scales, are `blockVal`. -/
theorem rowVal_eq (i : grid0.Coords) (x0 : Vec Ideal S512x5120 .i8) (x1 : Vec Ideal S8x4096 .f32) (p : Vec Ideal S5120x320 .i8)
    (s z : Vec Ideal S40x640 .i8) (w : Vec Ideal S1x640 .f32) (r : Fin 512) (n : Fin 640) :
    rowVal (k0_pay198 (F := Ideal) x0 (wt p s z)) (rowScales i x1) (wcb w) r n = blockVal i x0 x1 p s z w r n := by
  unfold rowVal blockVal
  rw [product_apply]
  rfl

section Runs

variable (c : Dev nD) (i : grid0.Coords) (arg1 : Memref sig .tc .vmem S512x5120 .i8) (harg1 : arg1.IsWhole) (arg2 : Memref sig .tc .vmem S8x4096 .f32) (harg2 : arg2.IsWhole)
  (arg3 : Memref sig .tc .vmem S5120x320 .i8) (harg3 : arg3.IsWhole) (arg4 : Memref sig .tc .vmem S40x640 .i8) (harg4 : arg4.IsWhole)
  (arg5 : Memref sig .tc .vmem S40x640 .i8) (harg5 : arg5.IsWhole) (arg6 : Memref sig .tc .vmem S1x640 .f32) (harg6 : arg6.IsWhole)
  (arg7 : Memref sig .tc .vmem S512x640 .bf16) (harg7 : arg7.IsWhole) (arg8 : Memref sig .tc .vmem S640x5120 .bf16) (harg8 : arg8.IsWhole)
  (arg9 : Memref sig .tc .vmem S640x128 .f32) (harg9 : arg9.IsWhole)
  (x0 : Vec Ideal S512x5120 .i8) (x1 : Vec Ideal S8x4096 .f32) (x2 : Vec Ideal S5120x320 .i8) (x3 x4 : Vec Ideal S40x640 .i8) (x5 : Vec Ideal S1x640 .f32)

/-- The first point leaves the weights in the weight scratch. -/
theorem sout_A_0 (hc0 : cond0_0 i) : sout0_A_0 (F := Ideal) c i arg1 harg1 arg2 harg2 arg3 harg3 arg4 harg4 arg5 harg5 arg6 harg6 arg7 harg7 arg8 harg8 arg9 harg9 hc0 x0 x1 x2 x3 x4 x5 = wt x2 x3 x4 :=
  (Cases.sout_A_0 c i arg1 harg1 arg2 harg2 arg3 harg3 arg4 harg4 arg5 harg5 arg6 harg6 arg7 harg7 arg8 harg8 arg9 harg9 x0 x1 x2 x3 x4 x5 hc0).trans
    (funext fun y => canon_pieces arg3 harg3 arg4 harg4 arg5 harg5 x2 x3 x4 y)

/-- What the first point reads back from the weight scratch. -/
theorem read_A_0 : kernelRun0_A.sl.v6 (F := Ideal) c arg3 harg3 arg4 harg4 arg5 harg5 arg8 x2 x3 x4 = wt x2 x3 x4 :=
  (Cases.read_A_0 c arg3 harg3 arg4 harg4 arg5 harg5 arg8 x2 x3 x4).trans
    (funext fun y => canon_pieces arg3 harg3 arg4 harg4 arg5 harg5 x2 x3 x4 y)

/-- A load of a whole buffer reads what the buffer holds. -/
theorem load_whole {s : Shape} {e : EltTy} (a : Memref sig .tc .vmem s e) (ha : a.IsWhole) {off : Fin s.rank → ℕ}
    (inb : ∀ d, off d + s.size d ≤ s.size d) (x : s.Idx → Elt Ideal e) :
    View.readAt (Elt Ideal) a.view (Rect.unit off s.size inb).toLoadRect (ha.unread x) = x :=
  (View.readAt_full a.view (ha.unread x) inb).trans (ha.read_unread x)

/-- What the first point reads back from the column scale scratch. -/
theorem read_A_1 : kernelRun0_A.sl.v44 (F := Ideal) c arg6 harg6 arg9 x5 = wcb x5 :=
  (View.readCov_full arg9.view inb_S640x128_S640x128_0_0 inb_S640x128_S640x128_0_0 _ []).trans
    ((congrArg (k0_pay197 (F := Ideal)) (load_whole arg6 harg6 inb_S1x640_S1x640_0_0 x5)).trans (scales_eq x5))

/-- The first point leaves the column scales in their scratch. -/
theorem sout_A_1 (hc0 : cond0_0 i) : sout0_A_1 (F := Ideal) c i arg1 harg1 arg2 harg2 arg3 harg3 arg4 harg4 arg5 harg5 arg6 harg6 arg7 harg7 arg8 harg8 arg9 harg9 hc0 x0 x1 x2 x3 x4 x5 = wcb x5 :=
  (View.read_writes_full VS0_1 VS0_1.junk inb_S640x128_S640x128_0_0 _ []).trans
    ((congrArg (k0_pay197 (F := Ideal)) (load_whole arg6 harg6 inb_S1x640_S1x640_0_0 x5)).trans (scales_eq x5))

/-- The row scales a point loads. -/
theorem load_scales : Cases.loadX (F := Ideal) i arg2 harg2 x1 = rowScales i x1 :=
  funext fun y => harg2.readAt_unread x1 (Rect.unit (s := S8x4096) (k0_off1 i) S1x512.size (k0_off1_inb i)).toLoadRect y

/-- What the first point leaves in its output block. -/
theorem out_A (hc0 : cond0_0 i) (y : S512x640.Idx) :
    out0_A_6 (F := Ideal) c i arg1 harg1 arg2 harg2 arg3 harg3 arg4 harg4 arg5 harg5 arg6 harg6 arg7 harg7 arg8 harg8 arg9 harg9 hc0 x0 x1 x2 x3 x4 x5 y = blockVal i x0 x1 x2 x3 x4 x5 (y 0) (y 1) := by
  rw [Cases.out_A, canon_lanes, load_scales, read_A_1]
  unfold kernelRun0_A.sl.r_84
  rw [read_A_0, load_whole]
  exact rowVal_eq i x0 x1 x2 x3 x4 x5 _ _

/-- What a later point leaves in its output block, when the scratches hold the weights and the column scales. -/
theorem out_B (hc0 : ¬ cond0_0 i) (p : Vec Ideal S5120x320 .i8) (s z : Vec Ideal S40x640 .i8) (w : Vec Ideal S1x640 .f32) (y : S512x640.Idx) :
    out0_B_6 (F := Ideal) c i arg1 harg1 arg2 harg2 arg3 harg3 arg4 harg4 arg5 harg5 arg6 harg6 arg7 harg7 arg8 harg8 arg9 harg9 hc0 x0 x1 x2 x3 x4 x5 (wt p s z) (wcb w) y = blockVal i x0 x1 p s z w (y 0) (y 1) := by
  rw [Cases.out_B, canon_lanes, load_scales, load_whole]
  unfold kernelRun0_B.sl.r
  rw [load_whole, load_whole]
  exact rowVal_eq i x0 x1 p s z w _ _

end Runs

end Cert.Proof.Points

end
-- ==== Proof.Blocks.lean ====
/-
  What each input block holds, in terms of the program's arguments: the whole array for the scales, the packed weights and the
  zeros, 512 rows of the codes for the first input.
-/
module

public import proofs.«01_k».proof.Proof.Points
public import Idealize.ShloMosaic.Lib.Pipeline.ValueKit
public import Idealize.ShloMosaic.Lib.Claim

@[expose] public section

set_option maxRecDepth 16384

noncomputable section

namespace Cert.Proof.Blocks

open Idealize.ShloMosaic Idealize.SL.Sem Cert.KernelIdeal
open Cert.KernelIdeal.Gen Idealize.ShloMosaic.TcCoe
open Idealize.ShloMosaic.Pipeline (Dat)

variable (m : (ℓ : Loc nD τ sig) → Buf (Elt Ideal) ℓ) (c : Dev nD)

/-- Where each window's block starts, and where a point's row scales start. -/
theorem idx : ∀ t : Fin cfg0.N,
    win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0
    ∧ k0_off1 (grid0.coords t) 0 = t.val / 8 ∧ k0_off1 (grid0.coords t) 1 = t.val % 8 * 512 :=
  (by decide +kernel : ∀ t : Fin grid0.N, _)

/-- The row scales' block is the whole array. -/
theorem blk1 (t : Fin cfg0.N) : iblk (F := Ideal) m c 1 t = m ((c : Thread nD τ).loc main_arg1) := by
  funext y
  obtain ⟨-, -, e0, e1, -⟩ := idx t
  blk_ext! [iblk, V, e0, e1]

/-- The packed weights' block is the whole array. -/
theorem blk2 (t : Fin cfg0.N) : iblk (F := Ideal) m c 2 t = m ((c : Thread nD τ).loc main_arg2) := by
  funext y
  obtain ⟨-, -, -, -, e0, e1, -⟩ := idx t
  blk_ext! [iblk, V, e0, e1]

/-- The group scales' block is the whole array. -/
theorem blk3 (t : Fin cfg0.N) : iblk (F := Ideal) m c 3 t = m ((c : Thread nD τ).loc main_arg3) := by
  funext y
  obtain ⟨-, -, -, -, -, -, e0, e1, -⟩ := idx t
  blk_ext! [iblk, V, e0, e1]

/-- The group zeros' block is the whole array. -/
theorem blk4 (t : Fin cfg0.N) : iblk (F := Ideal) m c 4 t = m ((c : Thread nD τ).loc main_arg4) := by
  funext y
  obtain ⟨-, -, -, -, -, -, -, -, e0, e1, -⟩ := idx t
  blk_ext! [iblk, V, e0, e1]

omit m c in
/-- Counting rows through the batch: row `R` of the flat array is row `R % 4096` of batch entry `R / 4096`. -/
theorem flat_apply {α : Type} (x : S8x4096x5120.Idx → α) (R : Fin 32768) (k : Fin 5120) :
    shapeCast S32768x5120 x shapeCasts_S8x4096x5120_S32768x5120 (ix2 R k)
      = x (ix3 (⟨R.val / 4096, by omega⟩ : Fin 8) (⟨R.val % 4096, by omega⟩ : Fin 4096) k) := by
  pointwise

/-- The codes as the grid finds them: the batch and the rows counted as one. -/
theorem V_codes : V (F := Ideal) m c main_v0
    = shapeCast S32768x5120 (m ((c : Thread nD τ).loc main_arg0)) shapeCasts_S8x4096x5120_S32768x5120 := by
  show StableHlo.after [hostOps0].flatten (fun b => m (c, b)) (Proc.tc.devRef main_v0) = _
  simp only [hostOps0, List.flatten_cons, List.flatten_nil, List.append_nil]
  after_results_simp
  rfl

/-- The column scales as the grid finds them: one row. -/
theorem V_scales : V (F := Ideal) m c main_v1
    = shapeCast S1x640 (m ((c : Thread nD τ).loc main_arg5)) shapeCasts_S640_S1x640 := by
  show StableHlo.after [hostOps0].flatten (fun b => m (c, b)) (Proc.tc.devRef main_v1) = _
  simp only [hostOps0, List.flatten_cons, List.flatten_nil, List.append_nil]
  after_results_simp
  rfl

/-- The column scales' block is the whole array, laid out as one row. -/
theorem blk5 (t : Fin cfg0.N) (n : Fin 640) : iblk (F := Ideal) m c 5 t (ix2 0 n) = m ((c : Thread nD τ).loc main_arg5) (ix1 n) := by
  obtain ⟨-, -, -, -, -, -, -, -, -, -, e0, e1, -⟩ := idx t
  have hi : (win0_5.blk t).view.emb (ix2 0 n) = ix2 (0 : Fin 1) n := by blk_ext! [e0, e1]
  show V m c main_v1 ((win0_5.blk t).view.emb (ix2 0 n)) = _
  rw [hi, V_scales]
  pointwise

/-- Row `r` of point `t`'s block of codes is row `512 t + r` of the codes, counted through the batch. -/
theorem blk0 (t : Fin cfg0.N) (r : Fin 512) (k : Fin 5120) (b : Fin 8) (s : Fin 4096) (h : 4096 * b.val + s.val = 512 * t.val + r.val) :
    iblk (F := Ideal) m c 0 t (ix2 r k) = m ((c : Thread nD τ).loc main_arg0) (ix3 b s k) := by
  obtain ⟨e0, e1, -⟩ := idx t
  have hr := r.isLt
  have ht := lt_of_lt_of_eq t.isLt (show cfg0.N = 64 from N_0)
  have hi : (win0_0.blk t).view.emb (ix2 r k) = ix2 (⟨512 * t.val + r.val, by omega⟩ : Fin 32768) k := by blk_ext! [e0, e1]
  show V m c main_v0 ((win0_0.blk t).view.emb (ix2 r k)) = _
  rw [hi, V_codes, flat_apply]
  congr 2
  · exact Fin.ext (by show (512 * t.val + r.val) / 4096 = b.val; omega)
  · exact Fin.ext (by show (512 * t.val + r.val) % 4096 = s.val; omega)

end Cert.Proof.Blocks

end
-- ==== Proof.Target.lean ====
/-
  The one value both programs compute: what every entry of the result is, over the arguments.
-/
module

public import proofs.«01_k».proof.Proof.Blocks

@[expose] public section

set_option maxRecDepth 16384

noncomputable section

namespace Cert.Proof.Target

open Idealize.ShloMosaic Idealize.SL.Sem Cert.KernelIdeal
open Cert.KernelIdeal.Gen Idealize.ShloMosaic.TcCoe
open Cert.Proof.Weights

/-- Entry `b, s, n` of the result: the sum over `k` of weight times code, times the row's scale, times the column's. -/
def entry (x : Vec Ideal S8x4096x5120 .i8) (xs : Vec Ideal S8x4096 .f32) (p : Vec Ideal S5120x320 .i8) (s z : Vec Ideal S40x640 .i8)
    (w : Vec Ideal S640 .f32) (b : Fin 8) (r : Fin 4096) (n : Fin 640) : EReal :=
  (∑ k : Fin 5120, weight p s z k n * code (x (ix3 b r k))) * xs (ix2 b r) * w (ix1 n)

/-- The result: `entry` at every index. -/
def result (x : Vec Ideal S8x4096x5120 .i8) (xs : Vec Ideal S8x4096 .f32) (p : Vec Ideal S5120x320 .i8) (s z : Vec Ideal S40x640 .i8)
    (w : Vec Ideal S640 .f32) : Vec Ideal S8x4096x640 .bf16 :=
  fun y => entry x xs p s z w (y 0) (y 1) (y 2)

/-- The result with the batch and the rows counted as one: 32768 rows. -/
def flat (x : Vec Ideal S8x4096x5120 .i8) (xs : Vec Ideal S8x4096 .f32) (p : Vec Ideal S5120x320 .i8) (s z : Vec Ideal S40x640 .i8)
    (w : Vec Ideal S640 .f32) : Vec Ideal S32768x640 .bf16 :=
  fun y => entry x xs p s z w ⟨(y 0).val / 4096, Nat.div_lt_of_lt_mul (y 0).isLt⟩ ⟨(y 0).val % 4096, Nat.mod_lt _ (by decide)⟩ (y 1)

/-- Row `R` of 32768 is row `s` of batch entry `b`, when `R = 4096 b + s`: the reshape of the flat result is the result. -/
theorem flat_reshape (x : Vec Ideal S8x4096x5120 .i8) (xs : Vec Ideal S8x4096 .f32) (p : Vec Ideal S5120x320 .i8) (s z : Vec Ideal S40x640 .i8)
    (w : Vec Ideal S640 .f32) :
    shapeCast S8x4096x640 (flat x xs p s z w) shapeCasts_S32768x640_S8x4096x640 = result x xs p s z w := by
  generalize hE : entry x xs p s z w = E
  have hf : flat x xs p s z w = fun y => E ⟨(y 0).val / 4096, Nat.div_lt_of_lt_mul (y 0).isLt⟩ ⟨(y 0).val % 4096, Nat.mod_lt _ (by decide)⟩ (y 1) := by
    rw [← hE]; rfl
  have hr : result x xs p s z w = fun y => E (y 0) (y 1) (y 2) := by rw [← hE]; rfl
  rw [hf, hr]
  funext y
  have h0 : (y 0).val < 8 := (y 0).isLt
  have h1 : (y 1).val < 4096 := (y 1).isLt
  refine (shapeCast_apply (s := S32768x640) (t := S8x4096x640) _ _ y (ix2 (⟨4096 * (y 0).val + (y 1).val, by omega⟩ : Fin 32768) (y 2)) ?_).trans ?_
  · rw [rowMajor_val2 _ 640 rfl, rowMajor_val3 _ (4096 * 640) 640 rfl rfl]
    show (4096 * (y 0).val + (y 1).val) * 640 + (y 2).val = _
    omega
  · have e0 : (⟨(4096 * (y 0).val + (y 1).val) / 4096, by omega⟩ : Fin 8) = y 0 :=
      Fin.ext (show (4096 * (y 0).val + (y 1).val) / 4096 = (y 0).val by omega)
    have e1 : (⟨(4096 * (y 0).val + (y 1).val) % 4096, by omega⟩ : Fin 4096) = y 1 :=
      Fin.ext (show (4096 * (y 0).val + (y 1).val) % 4096 = (y 1).val by omega)
    exact congrArg₂ (fun b s => E b s (y 2)) e0 e1

end Cert.Proof.Target

end
-- ==== Proof.KernelBlocks.lean ====
/-
  What the grid's points leave: the scratches hold the weights and the column scales after every point, and point `t` leaves rows
  `512 t` to `512 t + 511` of the flat result.
-/
module

public import proofs.«01_k».proof.Proof.Target

@[expose] public section

set_option maxRecDepth 16384

noncomputable section

namespace Cert.Proof.KernelBlocks

open Idealize.ShloMosaic Idealize.SL.Sem Cert.KernelIdeal
open Cert.KernelIdeal.Gen Idealize.ShloMosaic.TcCoe
open Cert.Proof.Weights Cert.Proof.Points Cert.Proof.Blocks

variable (m : (ℓ : Loc nD τ sig) → Buf (Elt Ideal) ℓ) (c : Dev nD)

/-- The weight scratch over the program's arguments. -/
def weights : Vec Ideal S640x5120 .bf16 :=
  wt (m ((c : Thread nD τ).loc main_arg2)) (m ((c : Thread nD τ).loc main_arg3)) (m ((c : Thread nD τ).loc main_arg4))

/-- The column scales as one row. -/
def row (w : Vec Ideal S640 .f32) : Vec Ideal S1x640 .f32 := fun y => w (ix1 (y 1))

/-- The column scale scratch over the program's arguments. -/
def scales : Vec Ideal S640x128 .f32 := wcb (row (m ((c : Thread nD τ).loc main_arg5)))

/-- The column scales' block is the one row of them. -/
theorem blk5_row (t : Fin cfg0.N) : iblk (F := Ideal) m c 5 t = row (m ((c : Thread nD τ).loc main_arg5)) := by
  have key : ∀ y : S1x640.Idx, iblk (F := Ideal) m c 5 t y = row (m ((c : Thread nD τ).loc main_arg5)) y := by
    intro y
    obtain ⟨u, n, rfl⟩ : ∃ (u : Fin 1) (n : Fin 640), y = ix2 u n := ⟨y 0, y 1, eq_ix2 y⟩
    rw [Subsingleton.elim u 0]
    exact blk5 m c t n
  exact funext key

/-- What a point of the first case leaves: the entries of its block, the weights, the column scales. -/
theorem point_A (t : Fin cfg0.N) (h0 : t.val % 64 = 0) :
    outsAt0 (F := Ideal) m c t.val t.isLt
      = (fun y => blockVal (grid0.coords t) (iblk m c 0 t) (iblk m c 1 t) (iblk m c 2 t) (iblk m c 3 t) (iblk m c 4 t) (iblk m c 5 t) (y 0) (y 1),
          weights m c, scales m c) := by
  have e0 := funext (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0))
  have e1 := sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0)
  have e2 := sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0)
  rw [outsAt0_A m c t h0, e0, e1, e2, blk2, blk3, blk4, blk5_row]
  rfl

/-- What a later point leaves, when the point before left the weights and the column scales. -/
theorem point_B (t : Fin cfg0.N) (h0 : ¬ t.val % 64 = 0)
    (hs : (outsAt0 (F := Ideal) m c (t.val - 1) (Nat.lt_of_le_of_lt (Nat.sub_le _ _) t.isLt)).2 = (weights m c, scales m c)) :
    outsAt0 (F := Ideal) m c t.val t.isLt
      = (fun y => blockVal (grid0.coords t) (iblk m c 0 t) (iblk m c 1 t) (iblk m c 2 t) (iblk m c 3 t) (iblk m c 4 t) (iblk m c 5 t) (y 0) (y 1),
          weights m c, scales m c) := by
  have e0 := funext (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) (fun h => h0 ((hcond0_0 t).mp h)) (iblk m c 2 t) (iblk m c 3 t) (iblk m c 4 t) (iblk m c 5 t))
  have ew : weights m c = wt (iblk (F := Ideal) m c 2 t) (iblk (F := Ideal) m c 3 t) (iblk (F := Ideal) m c 4 t) := by
    rw [blk2, blk3, blk4]; rfl
  have es : scales m c = wcb (iblk (F := Ideal) m c 5 t) := by
    rw [blk5_row]; rfl
  rw [outsAt0_B m c t h0, hs, ew, es]
  unfold sout0_B_0 sout0_B_1
  rw [e0]

/-- After every point the two scratches hold the weights and the column scales. -/
theorem scratch : ∀ (n : ℕ) (hn : n < cfg0.N), (outsAt0 (F := Ideal) m c n hn).2 = (weights m c, scales m c)
  | 0, hn => congrArg Prod.snd (point_A m c ⟨0, hn⟩ (Nat.zero_mod _))
  | n + 1, hn => by
    have hN := lt_of_lt_of_eq hn (show cfg0.N = 64 from N_0)
    exact congrArg Prod.snd (point_B m c ⟨n + 1, hn⟩ (by show ¬ (n + 1) % 64 = 0; omega) (scratch n (Nat.lt_of_succ_lt hn)))

/-- What every point leaves in its output block. -/
theorem block (t : Fin cfg0.N) (y : S512x640.Idx) :
    (outsAt0 (F := Ideal) m c t.val t.isLt).1 y
      = blockVal (grid0.coords t) (iblk m c 0 t) (iblk m c 1 t) (iblk m c 2 t) (iblk m c 3 t) (iblk m c 4 t) (iblk m c 5 t) (y 0) (y 1) := by
  by_cases h0 : t.val % 64 = 0
  · rw [point_A m c t h0]
  · rw [point_B m c t h0 (scratch m c _ _)]

/-- The flat result over the program's arguments. -/
def flat : Vec Ideal S32768x640 .bf16 :=
  Target.flat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The row scale a point uses for its row `r` is that of the row's batch entry and place. -/
theorem rowScale (t : Fin cfg0.N) (r : Fin 512) (b : Fin 8) (s : Fin 4096) (h : 4096 * b.val + s.val = 512 * t.val + r.val) (x : Vec Ideal S8x4096 .f32) :
    rowScales (grid0.coords t) x (ix2 0 r) = x (ix2 b s) := by
  obtain ⟨-, -, -, -, -, -, -, -, -, -, -, -, -, -, e0, e1⟩ := idx t
  have hr := r.isLt
  unfold rowScales
  congr 1
  funext a
  apply Fin.ext
  match a with
  | ⟨0, _⟩ => show k0_off1 (grid0.coords t) 0 + 1 * 0 = b.val; rw [e0]; omega
  | ⟨1, _⟩ => show k0_off1 (grid0.coords t) 1 + 1 * r.val = s.val; rw [e1]; omega

/-- Row `r`, column `n` of point `t`'s block is row `512 t + r`, column `n` of the flat result. -/
theorem block_flat (t : Fin cfg0.N) (r : Fin 512) (n : Fin 640) (R : Fin 32768) (hR : R.val = 512 * t.val + r.val) :
    blockVal (grid0.coords t) (iblk m c 0 t) (iblk m c 1 t) (iblk m c 2 t) (iblk m c 3 t) (iblk m c 4 t) (iblk m c 5 t) r n
      = flat m c (ix2 R n) := by
  have h : 4096 * (R.val / 4096) + R.val % 4096 = 512 * t.val + r.val := by omega
  unfold blockVal
  rw [rowScale t r ⟨R.val / 4096, by omega⟩ ⟨R.val % 4096, by omega⟩ h, blk1, blk2, blk3, blk4, blk5]
  simp only [blk0 m c t r _ ⟨R.val / 4096, by omega⟩ ⟨R.val % 4096, by omega⟩ h]
  rfl

end Cert.Proof.KernelBlocks

end
-- ==== Proof.KernelValue.lean ====
/-
  The kernel's result: the blocks the points write back make the flat array, and the program's last reshape makes it the result.
-/
module

public import proofs.«01_k».proof.Proof.KernelBlocks

@[expose] public section

set_option maxRecDepth 16384

noncomputable section

namespace Cert.Proof.KernelValue

open Idealize.ShloMosaic Idealize.SL.Sem Cert.KernelIdeal
open Cert.KernelIdeal.Gen Idealize.ShloMosaic.TcCoe
open Idealize.ShloMosaic.Pipeline (Dat)
open Cert.Proof.Blocks Cert.Proof.KernelBlocks

variable (m : (ℓ : Loc nD τ sig) → Buf (Elt Ideal) ℓ) (ρ : Dev nD → PrngReg) (c : Dev nD)

/-- Point `t` writes back block `t` of the flat result. -/
theorem flushed (t : Fin cfg0.N) :
    (dats (F := Ideal) m 0 c).flushed 6 t = ((cfg0.win 6).blk t).view.read (Elt Ideal) (flat m c) := by
  show (cfg0.win 6).cut (grid0.coords t) ((dats m 0 c).after 6 t) = _
  rw [after0_6]
  obtain ⟨-, -, -, -, -, -, -, -, -, -, -, -, e0, e1, -⟩ := idx t
  have ht := lt_of_lt_of_eq t.isLt (show cfg0.N = 64 from N_0)
  funext y
  show (outsAt0 m c t.val t.isLt).1 y = flat m c (((cfg0.win 6).blk t).view.emb y)
  have hy0 : (y 0).val < 512 := (y 0).isLt
  have hi : ((cfg0.win 6).blk t).view.emb y = ix2 (⟨512 * t.val + (y 0).val, by omega⟩ : Fin 32768) (y 1 : Fin 640) := by
    funext a
    apply Fin.ext
    match a with
    | ⟨0, _⟩ => show win0_6.index t 0 * 512 + 1 * (y 0).val = 512 * t.val + (y 0).val; rw [e0]; omega
    | ⟨1, _⟩ => show win0_6.index t 1 * 640 + 1 * (y 1).val = (y 1).val; rw [e1]; omega
  rw [hi, block]
  exact block_flat m c t (y 0) (y 1) _ rfl

/-- Every point writes its block back. -/
theorem flushes : ∀ t : Fin cfg0.N, (cfg0.win 6).flush t = true :=
  (by decide +kernel : ∀ t : Fin grid0.N, win0_6.flush t = true)

/-- Every entry of the flat array is in some point's block. -/
theorem covered (i : S32768x640.Idx) : ∃ t : Fin cfg0.N, (cfg0.win 6).flush t = true ∧ i ∈ ((cfg0.win 6).blk t).view.set := by
  have h0 : (i 0).val < 32768 := (i 0).isLt
  have h1 : (i 1).val < 640 := (i 1).isLt
  have ht : (i 0).val / 512 < cfg0.N := lt_of_lt_of_eq (by omega) N_0.symm
  refine ⟨⟨(i 0).val / 512, ht⟩, flushes _, ?_⟩
  obtain ⟨-, -, -, -, -, -, -, -, -, -, -, -, e0, e1, -⟩ := idx ⟨(i 0).val / 512, ht⟩
  show i ∈ ((View.whole main_v2).slice (win0_6.rect ⟨(i 0).val / 512, ht⟩)).set
  rw [View.set_slice_whole, Rect.mem_set_unit]
  intro a
  match a with
  | ⟨0, _⟩ => show win0_6.index _ 0 * 512 ≤ (i 0).val ∧ (i 0).val < win0_6.index _ 0 * 512 + 512; rw [e0]; dsimp only; omega
  | ⟨1, _⟩ => show win0_6.index _ 1 * 640 ≤ (i 1).val ∧ (i 1).val < win0_6.index _ 1 * 640 + 640; rw [e1]; omega

/-- The flat array after the grid's last point. -/
theorem array : (dats (F := Ideal) m 0 c).arrAt 6 cfg0.N = flat m c :=
  (dats m 0 c).arrAt_eq_of_cover 6 _ (fun t _ => flushed m c t) covered

/-- The result over the program's arguments. -/
def result : Vec Ideal S8x4096x640 .bf16 :=
  Target.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The program's last reshape makes the flat array the result. -/
theorem tail : Pipeline.afterTail₀ cfgs (dats (F := Ideal) m) 0 (V0 m) [hostOps1] c main_v3 = result m c := by
  have hw : Pipeline.withArrays (cfgs 0).spec c (V0 (F := Ideal) m c) (fun w => (dats m 0 c).arrAt w (cfgs 0).N) (Proc.devRef .tc main_v2) = flat m c :=
    (Pipeline.withArrays_arr (cfgs 0).spec launch0.win.arr_inj c (V0 m c) _ 6).trans (array m c)
  unfold Pipeline.afterTail₀
  generalize Pipeline.withArrays (cfgs 0).spec c (V0 (F := Ideal) m c) (fun w => (dats m 0 c).arrAt w (cfgs 0).N) = U at hw
  simp only [hostOps1, List.flatten_cons, List.flatten_nil, List.append_nil]
  after_results_simp
  refine Eq.trans ?_ (Target.flat_reshape _ _ _ _ _ _)
  exact congrArg (fun x => shapeCast S8x4096x640 x shapeCasts_S32768x640_S8x4096x640) hw

/-- Every run of the kernel ends with the result in the output and the arguments as they were. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨((h.1 c).2 main_v3 (Pipeline.mem_restRefs_of main_v3 (by decide) (by decide))).trans (tail m c), h.2 c⟩)
    (θ_run_and (run_main m ρ) (unchanged m ρ))

end Cert.Proof.KernelValue

end
-- ==== Proof.Reference.lean ====
/-
  What the reference computes: its composed term, read entry by entry, is the result.
-/
module

public import proofs.«01_k».proof.Proof.Target
public import proofs.«01_k».proof.Proof.Gen.ReferenceIdeal.Run

@[expose] public section

set_option maxRecDepth 16384

noncomputable section

namespace Cert.Proof.Reference

open Idealize.ShloMosaic Idealize.SL.Sem Cert.ReferenceIdeal
open Cert.ReferenceIdeal.Gen Idealize.ShloMosaic.TcCoe
open Cert.Proof.Weights

/-- One half of the weights: its codes, times the group's scale, less the group's zero. -/
def half (q : IVec S5120x320 32) (s z : IVec S40x320 8) : FVec Ideal S5120x320 .bf16 :=
  shapeCast S5120x320 (subf (mulf (shapeCast S40x128x320 (sitofp .bf16 q) shapeCasts_S5120x320_S40x128x320)
      (broadcastInDim S40x128x320 ![0, 1, 2] bcast_S40x1x320_S40x128x320_0_1_2 (broadcastInDim S40x1x320 ![0, 2] bcast_S40x320_S40x1x320_0_2 (sitofp .bf16 (extui 32 s natLt_8_32)))))
      (broadcastInDim S40x128x320 ![0, 1, 2] bcast_S40x1x320_S40x128x320_0_1_2 (broadcastInDim S40x1x320 ![0, 2] bcast_S40x320_S40x1x320_0_2 (sitofp .bf16 (extui 32 z natLt_8_32)))))
    shapeCasts_S40x128x320_S5120x320

/-- An entry of one half of the weights. -/
theorem half_apply (q : IVec S5120x320 32) (s z : IVec S40x320 8) (k : Fin 5120) (n : Fin 320) :
    half q s z (ix2 k n)
      = ((q (ix2 k n)).toInt : ℝ) * unsigned (s (ix2 (⟨k.val / 128, by omega⟩ : Fin 40) n)) - unsigned (z (ix2 (⟨k.val / 128, by omega⟩ : Fin 40) n)) := by
  unfold unsigned
  pointwise [half]
  rfl

/-- An entry of the product of the codes with one half of the weights. -/
theorem product_apply (x : IVec S8x4096x5120 8) (W : FVec Ideal S5120x320 .bf16) (b : Fin 8) (s : Fin 4096) (n : Fin 320) :
    Host.dotGeneral (F := Ideal) dot_S8x4096x5120_S5120x320_S8x4096x320_2_0_01_1_n_n none (sitofp .bf16 (extsi 32 x natLt_8_32)) W (ix3 b s n)
      = ∑ k : Fin 5120, W (ix2 k n) * code (x (ix3 b s k)) := by
  unfold code
  pointwise
  refine Finset.sum_congr rfl fun k _ => ?_
  rw [mul_comm]
  congr 1
  show (((x (ix3 b s k)).signExtend 32).toInt : ℝ) = (((x (ix3 b s k)).toInt : ℝ) : EReal)
  rw [BitVec.toInt_signExtend_of_le (by decide)]

/-- An entry of two halves side by side. -/
theorem halves_apply (A B : FVec Ideal S8x4096x320 .f32) (b : Fin 8) (s : Fin 4096) (n : Fin 640) :
    concatenate S8x4096x640 2 [⟨S8x4096x320, A⟩, ⟨S8x4096x320, B⟩] concatenates_S8x4096x320_S8x4096x320_S8x4096x640_d2 (ix3 b s n)
      = if h : n.val < 320 then A (ix3 b s ⟨n.val, h⟩) else B (ix3 b s ⟨n.val - 320, by omega⟩) := by
  pointwise

/-- The columns below 320 of a row of group scales or zeros. -/
theorem lower_apply (s : IVec S40x640 8) (g : Fin 40) (n : Fin 320) :
    extractStridedSlice S40x320 ![0, 0] s slices_S40x640_S40x320_0_0 (ix2 g n) = s (ix2 g ⟨n.val, by omega⟩) := by
  pointwise

/-- The columns from 320 on of a row of group scales or zeros. -/
theorem upper_apply (s : IVec S40x640 8) (g : Fin 40) (n : Fin 320) :
    extractStridedSlice S40x320 ![0, 320] s slices_S40x640_S40x320_0_320 (ix2 g n) = s (ix2 g ⟨320 + n.val, by omega⟩) := by
  pointwise

/-- The lower codes of the packed columns. -/
def lows (p : IVec S5120x320 8) : IVec S5120x320 32 :=
  andi (extui 32 p natLt_8_32) (broadcastInDim S5120x320 ![] bcast_S_S5120x320 (constantI S_ 32 15#32))

/-- The upper codes of the packed columns. -/
def highs (p : IVec S5120x320 8) : IVec S5120x320 32 :=
  Host.shrsi (extui 32 p natLt_8_32) (broadcastInDim S5120x320 ![] bcast_S_S5120x320 (constantI S_ 32 4#32))

/-- The reference's lower code is the lower four bits of the packed byte. -/
theorem lows_apply (p : IVec S5120x320 8) (k : Fin 5120) (n : Fin 320) : ((lows p (ix2 k n)).toInt : ℝ) = code (Codes.lo (p (ix2 k n))) := by
  have h : lows p (ix2 k n) = (p (ix2 k n)).setWidth 32 &&& 15#32 := by pointwise [lows]; rfl
  rw [h, Codes.lo_wide]
  rfl

/-- The reference's upper code is the upper four bits of the packed byte. -/
theorem highs_apply (p : IVec S5120x320 8) (k : Fin 5120) (n : Fin 320) : ((highs p (ix2 k n)).toInt : ℝ) = code (Codes.hi (p (ix2 k n))) := by
  have h : highs p (ix2 k n) = ((p (ix2 k n)).setWidth 32).sshiftRight' 4#32 := by
    pointwise [highs]
    rfl
  rw [h, Codes.hi_wide]
  rfl

/-- The lower half holds the weights of the columns below 320. -/
theorem lower_weight (p : IVec S5120x320 8) (s z : IVec S40x640 8) (k : Fin 5120) (n : Fin 640) (h : n.val < 320) :
    half (lows p) (extractStridedSlice S40x320 ![0, 0] s slices_S40x640_S40x320_0_0) (extractStridedSlice S40x320 ![0, 0] z slices_S40x640_S40x320_0_0) (ix2 k ⟨n.val, h⟩)
      = weight p s z k n := by
  rw [half_apply, lows_apply, lower_apply, lower_apply]
  unfold weight codeAt
  rw [dif_pos h]

/-- The upper half holds the weights of the columns from 320 on. -/
theorem upper_weight (p : IVec S5120x320 8) (s z : IVec S40x640 8) (k : Fin 5120) (n : Fin 640) (h : ¬ n.val < 320) :
    half (highs p) (extractStridedSlice S40x320 ![0, 320] s slices_S40x640_S40x320_0_320) (extractStridedSlice S40x320 ![0, 320] z slices_S40x640_S40x320_0_320) (ix2 k ⟨n.val - 320, by omega⟩)
      = weight p s z k n := by
  have hn : (⟨320 + (n.val - 320), by omega⟩ : Fin 640) = n := Fin.ext (by dsimp only; omega)
  rw [half_apply, highs_apply, upper_apply, upper_apply]
  dsimp only
  rw [hn]
  unfold weight codeAt
  rw [dif_neg h]

/-- The reference's two products side by side. -/
def products (x : IVec S8x4096x5120 8) (p : IVec S5120x320 8) (s z : IVec S40x640 8) : FVec Ideal S8x4096x640 .f32 :=
  concatenate S8x4096x640 2 [⟨S8x4096x320, Host.dotGeneral (F := Ideal) dot_S8x4096x5120_S5120x320_S8x4096x320_2_0_01_1_n_n none (sitofp .bf16 (extsi 32 x natLt_8_32))
          (half (lows p) (extractStridedSlice S40x320 ![0, 0] s slices_S40x640_S40x320_0_0) (extractStridedSlice S40x320 ![0, 0] z slices_S40x640_S40x320_0_0))⟩,
        ⟨S8x4096x320, Host.dotGeneral (F := Ideal) dot_S8x4096x5120_S5120x320_S8x4096x320_2_0_01_1_n_n none (sitofp .bf16 (extsi 32 x natLt_8_32))
          (half (highs p) (extractStridedSlice S40x320 ![0, 320] s slices_S40x640_S40x320_0_320) (extractStridedSlice S40x320 ![0, 320] z slices_S40x640_S40x320_0_320))⟩]
        concatenates_S8x4096x320_S8x4096x320_S8x4096x640_d2

/-- Each entry of the products is the sum over `k` of weight times code. -/
theorem products_at (x : IVec S8x4096x5120 8) (p : IVec S5120x320 8) (s z : IVec S40x640 8) (b : Fin 8) (r : Fin 4096) (n : Fin 640) :
    products x p s z (ix3 b r n) = ∑ k : Fin 5120, weight p s z k n * code (x (ix3 b r k)) := by
  unfold products
  rw [halves_apply]
  split
  · rename_i h
    rw [product_apply]
    simp only [lower_weight _ _ _ _ n h]
  · rename_i h
    rw [product_apply]
    simp only [upper_weight _ _ _ _ n h]

/-- The products times the row's scale, times the column's, narrowed. -/
def scaled (A : FVec Ideal S8x4096x640 .f32) (xs : FVec Ideal S8x4096 .f32) (w : FVec Ideal S640 .f32) : FVec Ideal S8x4096x640 .bf16 :=
  truncf .bf16 (mulf (mulf A (broadcastInDim S8x4096x640 ![0, 1, 2] bcast_S8x4096x1_S8x4096x640_0_1_2 (broadcastInDim S8x4096x1 ![0, 1] bcast_S8x4096_S8x4096x1_0_1 xs)))
    (broadcastInDim S8x4096x640 ![0, 1, 2] bcast_S1x1x640_S8x4096x640_0_1_2 (broadcastInDim S1x1x640 ![2] bcast_S640_S1x1x640_2 w))) bitsLt_bf16_f32

/-- An entry of the scaled products. -/
theorem scaled_apply (A : FVec Ideal S8x4096x640 .f32) (xs : FVec Ideal S8x4096 .f32) (w : FVec Ideal S640 .f32) (b : Fin 8) (r : Fin 4096) (n : Fin 640) :
    scaled A xs w (ix3 b r n) = A (ix3 b r n) * xs (ix2 b r) * w (ix1 n) := by
  pointwise [scaled]

/-- The reference's composed term is the result. -/
theorem composed (x : IVec S8x4096x5120 8) (xs : FVec Ideal S8x4096 .f32) (p : IVec S5120x320 8) (s z : IVec S40x640 8) (w : FVec Ideal S640 .f32) :
    scaled (products x p s z) xs w = Target.result x xs p s z w := by
  funext y
  obtain ⟨b, r, n, rfl⟩ : ∃ (b : Fin 8) (r : Fin 4096) (n : Fin 640), y = ix3 b r n := ⟨y 0, y 1, y 2, eq_ix3 y⟩
  rw [scaled_apply, products_at]
  rfl

variable (m : (ℓ : Loc nD τ sig) → Buf (Elt Ideal) ℓ) (ρ : Dev nD → PrngReg)

/-- The result over the reference's arguments. -/
def result (c : Dev nD) : FVec Ideal S8x4096x640 .bf16 :=
  Target.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Every run of the reference ends with the result in the output and the arguments as they were. -/
theorem run : θ_run defs (onTc (τ := τ) (main (F := Ideal))) ⟨m, fun _ => 0, ρ⟩ fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (composed _ _ _ _ _ _), (h c).2⟩)
    (Value.run m ρ)

end Cert.Proof.Reference

end
-- ==== Proof.lean ====
module

public import proofs.«01_k».proof.Defs
public import proofs.«01_k».proof.Proof.Gen.Kernel
public import proofs.«01_k».proof.Proof.Gen.Kernel.Frame
public import proofs.«01_k».proof.Proof.KernelValue
public import proofs.«01_k».proof.Proof.Reference
public import Idealize.ShloMosaic.Adequacy
public import Idealize.ShloMosaic.Init

@[expose] public section

noncomputable section

namespace Cert.Proof

open Idealize.ShloMosaic Idealize.SL.Sem

/-- The reference's frame: its arguments end as they were, and it declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- The kernel and the reference, over exact reals and from the same arguments, end with the same result. -/
theorem algebraic : Cert.algebraic_KernelIdeal_ReferenceIdeal := by
  intro m g m' g' _ hargs
  refine ⟨fun c => KernelValue.result m c, KernelValue.run m g, ?_⟩
  refine (θ_run Cert.ReferenceIdeal.defs _ _).mono (fun r h c => ⟨(h c).1.trans ?_, (h c).2⟩) (Reference.run m' g')
  obtain ⟨e0, e1, e2, e3, e4, e5⟩ := hargs c
  unfold Reference.result KernelValue.result
  rw [e0, e1, e2, e3, e4, e5]

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
